-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v38_0)) (v1 : (c : Dev Cert.KernelIdeal.nD) → Buf (Elt Ideal) ((c.tc : Thread Cert.KernelIdeal.nD Cert.KernelIdeal.τ).loc Cert.KernelIdeal.main_v38_1)) (v2 : (c : Dev Cert.KernelIdeal.nD) → Buf (Elt Ideal) ((c.tc : Thread Cert.KernelIdeal.nD Cert.KernelIdeal.τ).loc Cert.KernelIdeal.main_v14)) (v3 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38_0) = v0 c
          ∧ r.2.mem ((c.tc : Thread Cert.KernelIdeal.nD Cert.KernelIdeal.τ).loc Cert.KernelIdeal.main_v38_1) = v1 c
          ∧ r.2.mem ((c.tc : Thread Cert.KernelIdeal.nD Cert.KernelIdeal.τ).loc Cert.KernelIdeal.main_v14) = v2 c
          ∧ r.2.mem ((c.tc : Thread Cert.KernelIdeal.nD Cert.KernelIdeal.τ).loc Cert.KernelIdeal.main_v29) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_v14) = v2 c
          ∧ r.2.mem ((c.tc : Thread Cert.ReferenceIdeal.nD Cert.ReferenceIdeal.τ).loc Cert.ReferenceIdeal.main_v29) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x4096 : Shape := ⟨2, ![4096, 4096]⟩
abbrev S1024x512 : Shape := ⟨2, ![1024, 512]⟩
abbrev S512 : Shape := ⟨1, ![512]⟩
abbrev S512x10 : Shape := ⟨2, ![512, 10]⟩
abbrev S10 : Shape := ⟨1, ![10]⟩
abbrev S4096x8192 : Shape := ⟨2, ![4096, 8192]⟩
abbrev S_ : Shape := ⟨0, ![]⟩
abbrev S8192 : Shape := ⟨1, ![8192]⟩
abbrev S1x8192 : Shape := ⟨2, ![1, 8192]⟩
abbrev S1024 : Shape := ⟨1, ![1024]⟩
abbrev S1024x1 : Shape := ⟨2, ![1024, 1]⟩
abbrev S1 : Shape := ⟨1, ![1]⟩
abbrev S1x1 : Shape := ⟨2, ![1, 1]⟩
abbrev S4096x1024 : Shape := ⟨2, ![4096, 1024]⟩
abbrev S4096x5120 : Shape := ⟨2, ![4096, 5120]⟩
abbrev S5120 : Shape := ⟨1, ![5120]⟩
abbrev S1x5120 : Shape := ⟨2, ![1, 5120]⟩
abbrev S1x512 : Shape := ⟨2, ![1, 512]⟩
abbrev S1x10 : Shape := ⟨2, ![1, 10]⟩
abbrev S4096x10 : Shape := ⟨2, ![4096, 10]⟩
abbrev S512x1024 : Shape := ⟨2, ![512, 1024]⟩
abbrev S512x512 : Shape := ⟨2, ![512, 512]⟩

abbrev nBuf : Space → Nat
  | .hbm => 106
  | .vmem => 16
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1024x512, .f32⟩
  | .hbm, ⟨3, _⟩ => ⟨S512, .f32⟩
  | .hbm, ⟨4, _⟩ => ⟨S512x10, .f32⟩
  | .hbm, ⟨5, _⟩ => ⟨S10, .f32⟩
  | .hbm, ⟨6, _⟩ => ⟨S1024x512, .f32⟩
  | .hbm, ⟨7, _⟩ => ⟨S512, .f32⟩
  | .hbm, ⟨8, _⟩ => ⟨S512x10, .f32⟩
  | .hbm, ⟨9, _⟩ => ⟨S10, .f32⟩
  | .hbm, ⟨10, _⟩ => ⟨S4096x8192, .f32⟩
  | .hbm, ⟨11, _⟩ => ⟨S4096x8192, .f32⟩
  | .hbm, ⟨12, _⟩ => ⟨S_, .f32⟩
  | .hbm, ⟨13, _⟩ => ⟨S8192, .f32⟩
  | .hbm, ⟨14, _⟩ => ⟨S1x8192, .f32⟩
  | .hbm, ⟨15, _⟩ => ⟨S_, .f32⟩
  | .hbm, ⟨16, _⟩ => ⟨S1x8192, .f32⟩
  | .hbm, ⟨17, _⟩ => ⟨S1x8192, .f32⟩
  | .hbm, ⟨18, _⟩ => ⟨S4096x8192, .f32⟩
  | .hbm, ⟨19, _⟩ => ⟨S4096x8192, .f32⟩
  | .hbm, ⟨20, _⟩ => ⟨S_, .f32⟩
  | .hbm, ⟨21, _⟩ => ⟨S4096x8192, .f32⟩
  | .hbm, ⟨22, _⟩ => ⟨S4096x8192, .f32⟩
  | .hbm, ⟨23, _⟩ => ⟨S4096x8192, .f32⟩
  | .hbm, ⟨24, _⟩ => ⟨S4096x8192, .f32⟩
  | .hbm, ⟨25, _⟩ => ⟨S_, .f32⟩
  | .hbm, ⟨26, _⟩ => ⟨S8192, .f32⟩
  | .hbm, ⟨27, _⟩ => ⟨S8192, .f32⟩
  | .hbm, ⟨28, _⟩ => ⟨S1024, .f32⟩
  | .hbm, ⟨29, _⟩ => ⟨S1024, .i32⟩
  | .hbm, ⟨30, _⟩ => ⟨S_, .i32⟩
  | .hbm, ⟨31, _⟩ => ⟨S1024, .i32⟩
  | .hbm, ⟨32, _⟩ => ⟨S1024, .i1⟩
  | .hbm, ⟨33, _⟩ => ⟨S_, .i32⟩
  | .hbm, ⟨34, _⟩ => ⟨S1024, .i32⟩
  | .hbm, ⟨35, _⟩ => ⟨S1024, .i32⟩
  | .hbm, ⟨36, _⟩ => ⟨S1024, .i32⟩
  | .hbm, ⟨37, _⟩ => ⟨S1024x1, .i32⟩
  | .hbm, ⟨38, _⟩ => ⟨S1, .i32⟩
  | .hbm, ⟨39, _⟩ => ⟨S_, .i32⟩
  | .hbm, ⟨40, _⟩ => ⟨S1024x1, .i32⟩
  | .hbm, ⟨41, _⟩ => ⟨S1024x1, .i1⟩
  | .hbm, ⟨42, _⟩ => ⟨S1x1, .i32⟩
  | .hbm, ⟨43, _⟩ => ⟨S1024x1, .i32⟩
  | .hbm, ⟨44, _⟩ => ⟨S1024x1, .i1⟩
  | .hbm, ⟨45, _⟩ => ⟨S1024x1, .i1⟩
  | .hbm, ⟨46, _⟩ => ⟨S_, .i1⟩
  | .hbm, ⟨47, _⟩ => ⟨S1024, .i1⟩
  | .hbm, ⟨48, _⟩ => ⟨S4096x1024, .f32⟩
  | .hbm, ⟨49, _⟩ => ⟨S4096x1024, .i1⟩
  | .hbm, ⟨50, _⟩ => ⟨S_, .f32⟩
  | .hbm, ⟨51, _⟩ => ⟨S4096x1024, .f32⟩
  | .hbm, ⟨52, _⟩ => ⟨S4096x1024, .f32⟩
  | .hbm, ⟨53, _⟩ => ⟨S4096x5120, .f32⟩
  | .hbm, ⟨54, _⟩ => ⟨S4096x5120, .f32⟩
  | .hbm, ⟨55, _⟩ => ⟨S_, .f32⟩
  | .hbm, ⟨56, _⟩ => ⟨S5120, .f32⟩
  | .hbm, ⟨57, _⟩ => ⟨S1x5120, .f32⟩
  | .hbm, ⟨58, _⟩ => ⟨S_, .f32⟩
  | .hbm, ⟨59, _⟩ => ⟨S1x5120, .f32⟩
  | .hbm, ⟨60, _⟩ => ⟨S1x5120, .f32⟩
  | .hbm, ⟨61, _⟩ => ⟨S4096x5120, .f32⟩
  | .hbm, ⟨62, _⟩ => ⟨S4096x5120, .f32⟩
  | .hbm, ⟨63, _⟩ => ⟨S_, .f32⟩
  | .hbm, ⟨64, _⟩ => ⟨S4096x5120, .f32⟩
  | .hbm, ⟨65, _⟩ => ⟨S4096x5120, .f32⟩
  | .hbm, ⟨66, _⟩ => ⟨S4096x5120, .f32⟩
  | .hbm, ⟨67, _⟩ => ⟨S4096x5120, .f32⟩
  | .hbm, ⟨68, _⟩ => ⟨S_, .f32⟩
  | .hbm, ⟨69, _⟩ => ⟨S5120, .f32⟩
  | .hbm, ⟨70, _⟩ => ⟨S5120, .f32⟩
  | .hbm, ⟨71, _⟩ => ⟨S1024, .f32⟩
  | .hbm, ⟨72, _⟩ => ⟨S1024, .i32⟩
  | .hbm, ⟨73, _⟩ => ⟨S_, .i32⟩
  | .hbm, ⟨74, _⟩ => ⟨S1024, .i32⟩
  | .hbm, ⟨75, _⟩ => ⟨S1024, .i1⟩
  | .hbm, ⟨76, _⟩ => ⟨S_, .i32⟩
  | .hbm, ⟨77, _⟩ => ⟨S1024, .i32⟩
  | .hbm, ⟨78, _⟩ => ⟨S1024, .i32⟩
  | .hbm, ⟨79, _⟩ => ⟨S1024, .i32⟩
  | .hbm, ⟨80, _⟩ => ⟨S1024x1, .i32⟩
  | .hbm, ⟨81, _⟩ => ⟨S1, .i32⟩
  | .hbm, ⟨82, _⟩ => ⟨S_, .i32⟩
  | .hbm, ⟨83, _⟩ => ⟨S1024x1, .i32⟩
  | .hbm, ⟨84, _⟩ => ⟨S1024x1, .i1⟩
  | .hbm, ⟨85, _⟩ => ⟨S1x1, .i32⟩
  | .hbm, ⟨86, _⟩ => ⟨S1024x1, .i32⟩
  | .hbm, ⟨87, _⟩ => ⟨S1024x1, .i1⟩
  | .hbm, ⟨88, _⟩ => ⟨S1024x1, .i1⟩
  | .hbm, ⟨89, _⟩ => ⟨S_, .i1⟩
  | .hbm, ⟨90, _⟩ => ⟨S1024, .i1⟩
  | .hbm, ⟨91, _⟩ => ⟨S4096x1024, .f32⟩
  | .hbm, ⟨92, _⟩ => ⟨S4096x1024, .i1⟩
  | .hbm, ⟨93, _⟩ => ⟨S_, .f32⟩
  | .hbm, ⟨94, _⟩ => ⟨S4096x1024, .f32⟩
  | .hbm, ⟨95, _⟩ => ⟨S4096x1024, .f32⟩
  | .hbm, ⟨96, _⟩ => ⟨S1024x512, .bf16⟩
  | .hbm, ⟨97, _⟩ => ⟨S1x512, .f32⟩
  | .hbm, ⟨98, _⟩ => ⟨S512x10, .bf16⟩
  | .hbm, ⟨99, _⟩ => ⟨S1x10, .f32⟩
  | .hbm, ⟨100, _⟩ => ⟨S1024x512, .bf16⟩
  | .hbm, ⟨101, _⟩ => ⟨S1x512, .f32⟩
  | .hbm, ⟨102, _⟩ => ⟨S512x10, .bf16⟩
  | .hbm, ⟨103, _⟩ => ⟨S1x10, .f32⟩
  | .hbm, ⟨104, _⟩ => ⟨S4096x10, .f32⟩
  | .hbm, ⟨105, _⟩ => ⟨S4096x10, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x512, .bf16⟩
  | .local _ .vmem, ⟨5, _⟩ => ⟨S1x512, .f32⟩
  | .local _ .vmem, ⟨6, _⟩ => ⟨S512x10, .bf16⟩
  | .local _ .vmem, ⟨7, _⟩ => ⟨S1x10, .f32⟩
  | .local _ .vmem, ⟨8, _⟩ => ⟨S1024x512, .bf16⟩
  | .local _ .vmem, ⟨9, _⟩ => ⟨S1x512, .f32⟩
  | .local _ .vmem, ⟨10, _⟩ => ⟨S512x10, .bf16⟩
  | .local _ .vmem, ⟨11, _⟩ => ⟨S1x10, .f32⟩
  | .local _ .vmem, ⟨12, _⟩ => ⟨S512x10, .f32⟩
  | .local _ .vmem, ⟨13, _⟩ => ⟨S512x10, .f32⟩
  | .local _ .vmem, ⟨14, _⟩ => ⟨S512x10, .f32⟩
  | .local _ .vmem, ⟨15, _⟩ => ⟨S512x10, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_values : Ref sig .tc := ⟨.hbm, 28, rfl⟩
abbrev main_indices : Ref sig .tc := ⟨.hbm, 29, rfl⟩
abbrev main_call0_c : Ref sig .tc := ⟨.hbm, 30, rfl⟩
abbrev main_call0_v0 : Ref sig .tc := ⟨.hbm, 31, rfl⟩
abbrev main_call0_v1 : Ref sig .tc := ⟨.hbm, 32, rfl⟩
abbrev main_call0_c_0 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_c_1 : Ref sig .tc := ⟨.hbm, 38, rfl⟩
abbrev main_call0_c_2 : Ref sig .tc := ⟨.hbm, 39, rfl⟩
abbrev main_call0_v6 : Ref sig .tc := ⟨.hbm, 40, rfl⟩
abbrev main_call0_v7 : Ref sig .tc := ⟨.hbm, 41, rfl⟩
abbrev main_call0_v8 : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_c_3 : Ref sig .tc := ⟨.hbm, 46, rfl⟩
abbrev main_call0_v12 : Ref sig .tc := ⟨.hbm, 47, rfl⟩
abbrev main_call0_v13 : Ref sig .tc := ⟨.hbm, 48, rfl⟩
abbrev main_call0_v14 : Ref sig .tc := ⟨.hbm, 49, rfl⟩
abbrev main_call0_cst : Ref sig .tc := ⟨.hbm, 50, rfl⟩
abbrev main_call0_v15 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_cst_3 : Ref sig .tc := ⟨.hbm, 55, rfl⟩
abbrev main_v17 : Ref sig .tc := ⟨.hbm, 56, rfl⟩
abbrev main_v18 : Ref sig .tc := ⟨.hbm, 57, rfl⟩
abbrev main_cst_4 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_cst_5 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_cst_6 : Ref sig .tc := ⟨.hbm, 68, rfl⟩
abbrev main_v27 : Ref sig .tc := ⟨.hbm, 69, rfl⟩
abbrev main_v28 : Ref sig .tc := ⟨.hbm, 70, rfl⟩
abbrev main_values_7 : Ref sig .tc := ⟨.hbm, 71, rfl⟩
abbrev main_indices_8 : Ref sig .tc := ⟨.hbm, 72, rfl⟩
abbrev main_call1_c : Ref sig .tc := ⟨.hbm, 73, rfl⟩
abbrev main_call1_v0 : Ref sig .tc := ⟨.hbm, 74, rfl⟩
abbrev main_call1_v1 : Ref sig .tc := ⟨.hbm, 75, rfl⟩
abbrev main_call1_c_0 : Ref sig .tc := ⟨.hbm, 76, rfl⟩
abbrev main_call1_v2 : Ref sig .tc := ⟨.hbm, 77, rfl⟩
abbrev main_call1_v3 : Ref sig .tc := ⟨.hbm, 78, rfl⟩
abbrev main_call1_v4 : Ref sig .tc := ⟨.hbm, 79, rfl⟩
abbrev main_call1_v5 : Ref sig .tc := ⟨.hbm, 80, rfl⟩
abbrev main_call1_c_1 : Ref sig .tc := ⟨.hbm, 81, rfl⟩
abbrev main_call1_c_2 : Ref sig .tc := ⟨.hbm, 82, rfl⟩
abbrev main_call1_v6 : Ref sig .tc := ⟨.hbm, 83, rfl⟩
abbrev main_call1_v7 : Ref sig .tc := ⟨.hbm, 84, rfl⟩
abbrev main_call1_v8 : Ref sig .tc := ⟨.hbm, 85, rfl⟩
abbrev main_call1_v9 : Ref sig .tc := ⟨.hbm, 86, rfl⟩
abbrev main_call1_v10 : Ref sig .tc := ⟨.hbm, 87, rfl⟩
abbrev main_call1_v11 : Ref sig .tc := ⟨.hbm, 88, rfl⟩
abbrev main_call1_c_3 : Ref sig .tc := ⟨.hbm, 89, rfl⟩
abbrev main_call1_v12 : Ref sig .tc := ⟨.hbm, 90, rfl⟩
abbrev main_call1_v13 : Ref sig .tc := ⟨.hbm, 91, rfl⟩
abbrev main_call1_v14 : Ref sig .tc := ⟨.hbm, 92, rfl⟩
abbrev main_call1_cst : Ref sig .tc := ⟨.hbm, 93, rfl⟩
abbrev main_call1_v15 : Ref sig .tc := ⟨.hbm, 94, rfl⟩
abbrev main_v29 : Ref sig .tc := ⟨.hbm, 95, rfl⟩
abbrev main_v30 : Ref sig .tc := ⟨.hbm, 96, rfl⟩
abbrev main_v31 : Ref sig .tc := ⟨.hbm, 97, rfl⟩
abbrev main_v32 : Ref sig .tc := ⟨.hbm, 98, rfl⟩
abbrev main_v33 : Ref sig .tc := ⟨.hbm, 99, rfl⟩
abbrev main_v34 : Ref sig .tc := ⟨.hbm, 100, rfl⟩
abbrev main_v35 : Ref sig .tc := ⟨.hbm, 101, rfl⟩
abbrev main_v36 : Ref sig .tc := ⟨.hbm, 102, rfl⟩
abbrev main_v37 : Ref sig .tc := ⟨.hbm, 103, rfl⟩
abbrev main_v38_0 : Ref sig .tc := ⟨.hbm, 104, rfl⟩
abbrev main_v38_1 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x10 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x10 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x10 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x10 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x10 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x10 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S4096x4096 : Shape := ⟨2, ![4096, 4096]⟩
abbrev S1024x512 : Shape := ⟨2, ![1024, 512]⟩
abbrev S512 : Shape := ⟨1, ![512]⟩
abbrev S512x10 : Shape := ⟨2, ![512, 10]⟩
abbrev S10 : Shape := ⟨1, ![10]⟩
abbrev S4096x8192 : Shape := ⟨2, ![4096, 8192]⟩
abbrev S_ : Shape := ⟨0, ![]⟩
abbrev S8192 : Shape := ⟨1, ![8192]⟩
abbrev S1x8192 : Shape := ⟨2, ![1, 8192]⟩
abbrev S1024 : Shape := ⟨1, ![1024]⟩
abbrev S1024x1 : Shape := ⟨2, ![1024, 1]⟩
abbrev S1 : Shape := ⟨1, ![1]⟩
abbrev S1x1 : Shape := ⟨2, ![1, 1]⟩
abbrev S4096x1024 : Shape := ⟨2, ![4096, 1024]⟩
abbrev S4096x5120 : Shape := ⟨2, ![4096, 5120]⟩
abbrev S5120 : Shape := ⟨1, ![5120]⟩
abbrev S1x5120 : Shape := ⟨2, ![1, 5120]⟩
abbrev S4096x512 : Shape := ⟨2, ![4096, 512]⟩
abbrev S1x512 : Shape := ⟨2, ![1, 512]⟩
abbrev S4096x10 : Shape := ⟨2, ![4096, 10]⟩
abbrev S1x10 : Shape := ⟨2, ![1, 10]⟩

abbrev nBuf : Space → Nat
  | .hbm => 118
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1024x512, .f32⟩
  | .hbm, ⟨3, _⟩ => ⟨S512, .f32⟩
  | .hbm, ⟨4, _⟩ => ⟨S512x10, .f32⟩
  | .hbm, ⟨5, _⟩ => ⟨S10, .f32⟩
  | .hbm, ⟨6, _⟩ => ⟨S1024x512, .f32⟩
  | .hbm, ⟨7, _⟩ => ⟨S512, .f32⟩
  | .hbm, ⟨8, _⟩ => ⟨S512x10, .f32⟩
  | .hbm, ⟨9, _⟩ => ⟨S10, .f32⟩
  | .hbm, ⟨10, _⟩ => ⟨S4096x8192, .f32⟩
  | .hbm, ⟨11, _⟩ => ⟨S4096x8192, .f32⟩
  | .hbm, ⟨12, _⟩ => ⟨S_, .f32⟩
  | .hbm, ⟨13, _⟩ => ⟨S8192, .f32⟩
  | .hbm, ⟨14, _⟩ => ⟨S1x8192, .f32⟩
  | .hbm, ⟨15, _⟩ => ⟨S_, .f32⟩
  | .hbm, ⟨16, _⟩ => ⟨S1x8192, .f32⟩
  | .hbm, ⟨17, _⟩ => ⟨S1x8192, .f32⟩
  | .hbm, ⟨18, _⟩ => ⟨S4096x8192, .f32⟩
  | .hbm, ⟨19, _⟩ => ⟨S4096x8192, .f32⟩
  | .hbm, ⟨20, _⟩ => ⟨S_, .f32⟩
  | .hbm, ⟨21, _⟩ => ⟨S4096x8192, .f32⟩
  | .hbm, ⟨22, _⟩ => ⟨S4096x8192, .f32⟩
  | .hbm, ⟨23, _⟩ => ⟨S4096x8192, .f32⟩
  | .hbm, ⟨24, _⟩ => ⟨S4096x8192, .f32⟩
  | .hbm, ⟨25, _⟩ => ⟨S_, .f32⟩
  | .hbm, ⟨26, _⟩ => ⟨S8192, .f32⟩
  | .hbm, ⟨27, _⟩ => ⟨S8192, .f32⟩
  | .hbm, ⟨28, _⟩ => ⟨S1024, .f32⟩
  | .hbm, ⟨29, _⟩ => ⟨S1024, .i32⟩
  | .hbm, ⟨30, _⟩ => ⟨S_, .i32⟩
  | .hbm, ⟨31, _⟩ => ⟨S1024, .i32⟩
  | .hbm, ⟨32, _⟩ => ⟨S1024, .i1⟩
  | .hbm, ⟨33, _⟩ => ⟨S_, .i32⟩
  | .hbm, ⟨34, _⟩ => ⟨S1024, .i32⟩
  | .hbm, ⟨35, _⟩ => ⟨S1024, .i32⟩
  | .hbm, ⟨36, _⟩ => ⟨S1024, .i32⟩
  | .hbm, ⟨37, _⟩ => ⟨S1024x1, .i32⟩
  | .hbm, ⟨38, _⟩ => ⟨S1, .i32⟩
  | .hbm, ⟨39, _⟩ => ⟨S_, .i32⟩
  | .hbm, ⟨40, _⟩ => ⟨S1024x1, .i32⟩
  | .hbm, ⟨41, _⟩ => ⟨S1024x1, .i1⟩
  | .hbm, ⟨42, _⟩ => ⟨S1x1, .i32⟩
  | .hbm, ⟨43, _⟩ => ⟨S1024x1, .i32⟩
  | .hbm, ⟨44, _⟩ => ⟨S1024x1, .i1⟩
  | .hbm, ⟨45, _⟩ => ⟨S1024x1, .i1⟩
  | .hbm, ⟨46, _⟩ => ⟨S_, .i1⟩
  | .hbm, ⟨47, _⟩ => ⟨S1024, .i1⟩
  | .hbm, ⟨48, _⟩ => ⟨S4096x1024, .f32⟩
  | .hbm, ⟨49, _⟩ => ⟨S4096x1024, .i1⟩
  | .hbm, ⟨50, _⟩ => ⟨S_, .f32⟩
  | .hbm, ⟨51, _⟩ => ⟨S4096x1024, .f32⟩
  | .hbm, ⟨52, _⟩ => ⟨S4096x1024, .f32⟩
  | .hbm, ⟨53, _⟩ => ⟨S4096x5120, .f32⟩
  | .hbm, ⟨54, _⟩ => ⟨S4096x5120, .f32⟩
  | .hbm, ⟨55, _⟩ => ⟨S_, .f32⟩
  | .hbm, ⟨56, _⟩ => ⟨S5120, .f32⟩
  | .hbm, ⟨57, _⟩ => ⟨S1x5120, .f32⟩
  | .hbm, ⟨58, _⟩ => ⟨S_, .f32⟩
  | .hbm, ⟨59, _⟩ => ⟨S1x5120, .f32⟩
  | .hbm, ⟨60, _⟩ => ⟨S1x5120, .f32⟩
  | .hbm, ⟨61, _⟩ => ⟨S4096x5120, .f32⟩
  | .hbm, ⟨62, _⟩ => ⟨S4096x5120, .f32⟩
  | .hbm, ⟨63, _⟩ => ⟨S_, .f32⟩
  | .hbm, ⟨64, _⟩ => ⟨S4096x5120, .f32⟩
  | .hbm, ⟨65, _⟩ => ⟨S4096x5120, .f32⟩
  | .hbm, ⟨66, _⟩ => ⟨S4096x5120, .f32⟩
  | .hbm, ⟨67, _⟩ => ⟨S4096x5120, .f32⟩
  | .hbm, ⟨68, _⟩ => ⟨S_, .f32⟩
  | .hbm, ⟨69, _⟩ => ⟨S5120, .f32⟩
  | .hbm, ⟨70, _⟩ => ⟨S5120, .f32⟩
  | .hbm, ⟨71, _⟩ => ⟨S1024, .f32⟩
  | .hbm, ⟨72, _⟩ => ⟨S1024, .i32⟩
  | .hbm, ⟨73, _⟩ => ⟨S_, .i32⟩
  | .hbm, ⟨74, _⟩ => ⟨S1024, .i32⟩
  | .hbm, ⟨75, _⟩ => ⟨S1024, .i1⟩
  | .hbm, ⟨76, _⟩ => ⟨S_, .i32⟩
  | .hbm, ⟨77, _⟩ => ⟨S1024, .i32⟩
  | .hbm, ⟨78, _⟩ => ⟨S1024, .i32⟩
  | .hbm, ⟨79, _⟩ => ⟨S1024, .i32⟩
  | .hbm, ⟨80, _⟩ => ⟨S1024x1, .i32⟩
  | .hbm, ⟨81, _⟩ => ⟨S1, .i32⟩
  | .hbm, ⟨82, _⟩ => ⟨S_, .i32⟩
  | .hbm, ⟨83, _⟩ => ⟨S1024x1, .i32⟩
  | .hbm, ⟨84, _⟩ => ⟨S1024x1, .i1⟩
  | .hbm, ⟨85, _⟩ => ⟨S1x1, .i32⟩
  | .hbm, ⟨86, _⟩ => ⟨S1024x1, .i32⟩
  | .hbm, ⟨87, _⟩ => ⟨S1024x1, .i1⟩
  | .hbm, ⟨88, _⟩ => ⟨S1024x1, .i1⟩
  | .hbm, ⟨89, _⟩ => ⟨S_, .i1⟩
  | .hbm, ⟨90, _⟩ => ⟨S1024, .i1⟩
  | .hbm, ⟨91, _⟩ => ⟨S4096x1024, .f32⟩
  | .hbm, ⟨92, _⟩ => ⟨S4096x1024, .i1⟩
  | .hbm, ⟨93, _⟩ => ⟨S_, .f32⟩
  | .hbm, ⟨94, _⟩ => ⟨S4096x1024, .f32⟩
  | .hbm, ⟨95, _⟩ => ⟨S4096x1024, .f32⟩
  | .hbm, ⟨96, _⟩ => ⟨S4096x512, .f32⟩
  | .hbm, ⟨97, _⟩ => ⟨S1x512, .f32⟩
  | .hbm, ⟨98, _⟩ => ⟨S4096x512, .f32⟩
  | .hbm, ⟨99, _⟩ => ⟨S4096x512, .f32⟩
  | .hbm, ⟨100, _⟩ => ⟨S_, .f32⟩
  | .hbm, ⟨101, _⟩ => ⟨S4096x512, .f32⟩
  | .hbm, ⟨102, _⟩ => ⟨S4096x512, .f32⟩
  | .hbm, ⟨103, _⟩ => ⟨S4096x10, .f32⟩
  | .hbm, ⟨104, _⟩ => ⟨S1x10, .f32⟩
  | .hbm, ⟨105, _⟩ => ⟨S4096x10, .f32⟩
  | .hbm, ⟨106, _⟩ => ⟨S4096x10, .f32⟩
  | .hbm, ⟨107, _⟩ => ⟨S4096x512, .f32⟩
  | .hbm, ⟨108, _⟩ => ⟨S1x512, .f32⟩
  | .hbm, ⟨109, _⟩ => ⟨S4096x512, .f32⟩
  | .hbm, ⟨110, _⟩ => ⟨S4096x512, .f32⟩
  | .hbm, ⟨111, _⟩ => ⟨S_, .f32⟩
  | .hbm, ⟨112, _⟩ => ⟨S4096x512, .f32⟩
  | .hbm, ⟨113, _⟩ => ⟨S4096x512, .f32⟩
  | .hbm, ⟨114, _⟩ => ⟨S4096x10, .f32⟩
  | .hbm, ⟨115, _⟩ => ⟨S1x10, .f32⟩
  | .hbm, ⟨116, _⟩ => ⟨S4096x10, .f32⟩
  | .hbm, ⟨117, _⟩ => ⟨S4096x10, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_values : Ref sig .tc := ⟨.hbm, 28, rfl⟩
abbrev main_indices : Ref sig .tc := ⟨.hbm, 29, rfl⟩
abbrev main_call0_c : Ref sig .tc := ⟨.hbm, 30, rfl⟩
abbrev main_call0_v0 : Ref sig .tc := ⟨.hbm, 31, rfl⟩
abbrev main_call0_v1 : Ref sig .tc := ⟨.hbm, 32, rfl⟩
abbrev main_call0_c_0 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_c_1 : Ref sig .tc := ⟨.hbm, 38, rfl⟩
abbrev main_call0_c_2 : Ref sig .tc := ⟨.hbm, 39, rfl⟩
abbrev main_call0_v6 : Ref sig .tc := ⟨.hbm, 40, rfl⟩
abbrev main_call0_v7 : Ref sig .tc := ⟨.hbm, 41, rfl⟩
abbrev main_call0_v8 : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_c_3 : Ref sig .tc := ⟨.hbm, 46, rfl⟩
abbrev main_call0_v12 : Ref sig .tc := ⟨.hbm, 47, rfl⟩
abbrev main_call0_v13 : Ref sig .tc := ⟨.hbm, 48, rfl⟩
abbrev main_call0_v14 : Ref sig .tc := ⟨.hbm, 49, rfl⟩
abbrev main_call0_cst : Ref sig .tc := ⟨.hbm, 50, rfl⟩
abbrev main_call0_v15 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_cst_3 : Ref sig .tc := ⟨.hbm, 55, rfl⟩
abbrev main_v17 : Ref sig .tc := ⟨.hbm, 56, rfl⟩
abbrev main_v18 : Ref sig .tc := ⟨.hbm, 57, rfl⟩
abbrev main_cst_4 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_cst_5 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_cst_6 : Ref sig .tc := ⟨.hbm, 68, rfl⟩
abbrev main_v27 : Ref sig .tc := ⟨.hbm, 69, rfl⟩
abbrev main_v28 : Ref sig .tc := ⟨.hbm, 70, rfl⟩
abbrev main_values_7 : Ref sig .tc := ⟨.hbm, 71, rfl⟩
abbrev main_indices_8 : Ref sig .tc := ⟨.hbm, 72, rfl⟩
abbrev main_call1_c : Ref sig .tc := ⟨.hbm, 73, rfl⟩
abbrev main_call1_v0 : Ref sig .tc := ⟨.hbm, 74, rfl⟩
abbrev main_call1_v1 : Ref sig .tc := ⟨.hbm, 75, rfl⟩
abbrev main_call1_c_0 : Ref sig .tc := ⟨.hbm, 76, rfl⟩
abbrev main_call1_v2 : Ref sig .tc := ⟨.hbm, 77, rfl⟩
abbrev main_call1_v3 : Ref sig .tc := ⟨.hbm, 78, rfl⟩
abbrev main_call1_v4 : Ref sig .tc := ⟨.hbm, 79, rfl⟩
abbrev main_call1_v5 : Ref sig .tc := ⟨.hbm, 80, rfl⟩
abbrev main_call1_c_1 : Ref sig .tc := ⟨.hbm, 81, rfl⟩
abbrev main_call1_c_2 : Ref sig .tc := ⟨.hbm, 82, rfl⟩
abbrev main_call1_v6 : Ref sig .tc := ⟨.hbm, 83, rfl⟩
abbrev main_call1_v7 : Ref sig .tc := ⟨.hbm, 84, rfl⟩
abbrev main_call1_v8 : Ref sig .tc := ⟨.hbm, 85, rfl⟩
abbrev main_call1_v9 : Ref sig .tc := ⟨.hbm, 86, rfl⟩
abbrev main_call1_v10 : Ref sig .tc := ⟨.hbm, 87, rfl⟩
abbrev main_call1_v11 : Ref sig .tc := ⟨.hbm, 88, rfl⟩
abbrev main_call1_c_3 : Ref sig .tc := ⟨.hbm, 89, rfl⟩
abbrev main_call1_v12 : Ref sig .tc := ⟨.hbm, 90, rfl⟩
abbrev main_call1_v13 : Ref sig .tc := ⟨.hbm, 91, rfl⟩
abbrev main_call1_v14 : Ref sig .tc := ⟨.hbm, 92, rfl⟩
abbrev main_call1_cst : Ref sig .tc := ⟨.hbm, 93, rfl⟩
abbrev main_call1_v15 : Ref sig .tc := ⟨.hbm, 94, rfl⟩
abbrev main_v29 : Ref sig .tc := ⟨.hbm, 95, rfl⟩
abbrev main_v30 : Ref sig .tc := ⟨.hbm, 96, rfl⟩
abbrev main_v31 : Ref sig .tc := ⟨.hbm, 97, rfl⟩
abbrev main_v32 : Ref sig .tc := ⟨.hbm, 98, rfl⟩
abbrev main_v33 : Ref sig .tc := ⟨.hbm, 99, rfl⟩
abbrev main_call2_cst : Ref sig .tc := ⟨.hbm, 100, rfl⟩
abbrev main_call2_v0 : Ref sig .tc := ⟨.hbm, 101, rfl⟩
abbrev main_v34 : Ref sig .tc := ⟨.hbm, 102, rfl⟩
abbrev main_v35 : Ref sig .tc := ⟨.hbm, 103, rfl⟩
abbrev main_v36 : Ref sig .tc := ⟨.hbm, 104, rfl⟩
abbrev main_v37 : Ref sig .tc := ⟨.hbm, 105, rfl⟩
abbrev main_v38 : Ref sig .tc := ⟨.hbm, 106, rfl⟩
abbrev main_v39 : Ref sig .tc := ⟨.hbm, 107, rfl⟩
abbrev main_v40 : Ref sig .tc := ⟨.hbm, 108, rfl⟩
abbrev main_v41 : Ref sig .tc := ⟨.hbm, 109, rfl⟩
abbrev main_v42 : Ref sig .tc := ⟨.hbm, 110, rfl⟩
abbrev main_call3_cst : Ref sig .tc := ⟨.hbm, 111, rfl⟩
abbrev main_call3_v0 : Ref sig .tc := ⟨.hbm, 112, rfl⟩
abbrev main_v43 : Ref sig .tc := ⟨.hbm, 113, rfl⟩
abbrev main_v44 : Ref sig .tc := ⟨.hbm, 114, rfl⟩
abbrev main_v45 : Ref sig .tc := ⟨.hbm, 115, rfl⟩
abbrev main_v46 : Ref sig .tc := ⟨.hbm, 116, rfl⟩
abbrev main_v47 : Ref sig .tc := ⟨.hbm, 117, rfl⟩

abbrev nD : Nat := 1
abbrev τ : Topo := Topo.v7x

variable {F : FTy → Type} [FloatOps F]
-- ==== Proof.Host.lean ====
/-
  What the kernel's host code leaves before its region starts, against the reference's terms.

  Both programs select the columns by the same host operations: concatenate, the columns' entropies, the 1024 largest,
  and the columns taken by those indices, twice. Each lemma below reads one stretch of the kernel's host operations over
  contents at which the earlier stretches' buffers already hold the reference's terms.
-/
module

public import proofs.«01_k».proof.Proof.Gen.KernelIdeal.Value
public import proofs.«01_k».proof.Proof.Gen.ReferenceIdeal.Run

@[expose] public section

set_option maxRecDepth 16384

noncomputable section

namespace Cert.Proof.Host

open Cert.KernelIdeal Cert.KernelIdeal.Gen Idealize.ShloMosaic Idealize.ShloMosaic.TcCoe Idealize.SL.Sem
  Idealize.ShloMosaic.StableHlo
open Cert.ReferenceIdeal.Value (fn_main_v0 fn_main_v15 res_main_v0 res_main_indices res_main_v14 res_main_v15 res_main_indices_8)

variable {F : FTy → Type} [FloatOps F]

/-- The contents of the kernel's buffers on one device, -/
local notation "KV" => Valuation Cert.KernelIdeal.τ Cert.KernelIdeal.sig (Elt F)
/-- and of the reference's. -/
local notation "RV" => Valuation Cert.ReferenceIdeal.τ Cert.ReferenceIdeal.sig (Elt F)

/-- The first concatenation: the two streams side by side. -/
theorem first_concat (W : KV) (R : RV)
    (h0 : W (Proc.devRef .tc main_arg0) = R (Proc.devRef .tc Cert.ReferenceIdeal.main_arg0))
    (h1 : W (Proc.devRef .tc main_arg1) = R (Proc.devRef .tc Cert.ReferenceIdeal.main_arg1)) :
    after (hostOps0.take 1) W (Proc.devRef .tc main_v0) = res_main_v0 R := by
  simp only [hostOps0, List.take_succ_cons, List.take_zero]
  after_results_simp
  exact congrArg₂ (fn_main_v0 (F := F)) h0 h1

set_option maxHeartbeats 2000000 in
/-- The first selection: the indices of the 1024 columns of largest entropy. -/
theorem first_indices (W : KV) (R : RV) (h : W (Proc.devRef .tc main_v0) = res_main_v0 R) :
    after (hostOps0.drop 1) W (Proc.devRef .tc main_indices) = res_main_indices R := by
  simp only [hostOps0, List.drop_succ_cons, List.drop_zero]
  after_results_simp
  simp only [h]
  rfl

set_option maxHeartbeats 2000000 in
/-- The first fused array: the columns of the concatenation at those indices. -/
theorem first_taken (W : KV) (R : RV) (h : W (Proc.devRef .tc main_v0) = res_main_v0 R)
    (hi : W (Proc.devRef .tc main_indices) = res_main_indices R) :
    after hostOps0_1 W (Proc.devRef .tc main_v14) = res_main_v14 R := by
  simp only [hostOps0_1, TRef.binary, TRef.nullary, TRef.ternary, TRef.unary, TRef.toBuf, TRef.ofBuf, cast_eq]
  after_results_simp
  simp only [h, hi]
  rfl

/-- The second concatenation: the first fused array beside the second stream. -/
theorem second_concat (W : KV) (R : RV) (h : W (Proc.devRef .tc main_v14) = res_main_v14 R)
    (h1 : W (Proc.devRef .tc main_arg1) = R (Proc.devRef .tc Cert.ReferenceIdeal.main_arg1)) :
    after (hostOps0_2.take 1) W (Proc.devRef .tc main_v15) = res_main_v15 R := by
  simp only [hostOps0_2, List.take_succ_cons, List.take_zero]
  after_results_simp
  exact congrArg₂ (fn_main_v15 (F := F)) h h1

set_option maxHeartbeats 2000000 in
/-- The second selection: the indices of the 1024 columns of largest entropy. -/
theorem second_indices (W : KV) (R : RV) (h : W (Proc.devRef .tc main_v15) = res_main_v15 R) :
    after (hostOps0_2.drop 1) W (Proc.devRef .tc main_indices_8) = res_main_indices_8 R := by
  simp only [hostOps0_2, List.drop_succ_cons, List.drop_zero]
  after_results_simp
  simp only [h]
  rfl

/-- The reference's second fused array, as its run leaves it. -/
abbrev refSecond (R : RV) : (Proc.devRef .tc Cert.ReferenceIdeal.main_v29 : DevRef Cert.ReferenceIdeal.τ Cert.ReferenceIdeal.sig).ty.Contents (Elt F) :=
  Cert.ReferenceIdeal.Value.val0_3 R (Proc.devRef .tc Cert.ReferenceIdeal.main_v29)

set_option maxHeartbeats 2000000 in
/-- The second fused array: the columns of the second concatenation at those indices. -/
theorem second_taken (W : KV) (R : RV) (h : W (Proc.devRef .tc main_v15) = res_main_v15 R)
    (hi : W (Proc.devRef .tc main_indices_8) = res_main_indices_8 R) :
    after hostOps0_3 W (Proc.devRef .tc main_v29) = refSecond R := by
  rw [refSecond, Cert.ReferenceIdeal.Value.val0_3_main_v29]
  simp only [hostOps0_3, TRef.binary, TRef.nullary, TRef.ternary, TRef.unary, TRef.toBuf, TRef.ofBuf, cast_eq]
  after_results_simp
  simp only [h, hi]
  rfl

/-- The first stretch after its concatenation keeps the concatenation and the second stream, -/
theorem keep_v0 (W : KV) : after (hostOps0.drop 1) W (Proc.devRef .tc main_v0) = W (Proc.devRef .tc main_v0) := by
  simp only [hostOps0, List.drop_succ_cons, List.drop_zero]
  after_results_simp
theorem keep_arg1 (W : KV) : after hostOps0 W (Proc.devRef .tc main_arg1) = W (Proc.devRef .tc main_arg1) := by
  simp only [hostOps0]
  after_results_simp
/-- taking the columns keeps the second stream, -/
theorem keep_arg1' (W : KV) : after hostOps0_1 W (Proc.devRef .tc main_arg1) = W (Proc.devRef .tc main_arg1) := by
  simp only [hostOps0_1, TRef.binary, TRef.nullary, TRef.ternary, TRef.unary]
  after_results_simp
/-- the third keeps the first fused array and its own concatenation, -/
theorem keep_v14 (W : KV) : after hostOps0_2 W (Proc.devRef .tc main_v14) = W (Proc.devRef .tc main_v14) := by
  simp only [hostOps0_2]
  after_results_simp
theorem keep_v15 (W : KV) : after (hostOps0_2.drop 1) W (Proc.devRef .tc main_v15) = W (Proc.devRef .tc main_v15) := by
  simp only [hostOps0_2, List.drop_succ_cons, List.drop_zero]
  after_results_simp
/-- the fourth keeps the first fused array, -/
theorem keep_v14' (W : KV) : after hostOps0_3 W (Proc.devRef .tc main_v14) = W (Proc.devRef .tc main_v14) := by
  simp only [hostOps0_3, TRef.binary, TRef.nullary, TRef.ternary, TRef.unary]
  after_results_simp
/-- and the last, which only casts and reshapes the parameters, keeps whatever it does not write. -/
theorem keep_last (W : KV) (r : Ref sig .tc)
    (hr : r ∉ [main_v30, main_v31, main_v32, main_v33, main_v34, main_v35, main_v36, main_v37]) :
    after hostOps0_4 W (Proc.devRef .tc r) = W (Proc.devRef .tc r) :=
  after_of_writes_sub hostOps0_4 W (by
    simp only [List.Forall, unary_writes, reshape_writes, Finset.singleton_subset_iff, List.mem_toFinset]
    repeat' apply And.intro
    all_goals exact List.mem_map_of_mem (by decide)) hr

/-! ## The whole host code -/

variable (m : (ℓ : Loc nD τ sig) → Buf (Elt F) ℓ) (c : Dev nD)

/-- Device `c`'s buffers before the last stretch. -/
abbrev before : KV := after hostOps0_3 (after hostOps0_2 (after hostOps0_1 (after hostOps0 (fun b => m (c, b)))))

/-- What the region is entered with is the last stretch's result over the others'. -/
theorem V_eq (r : Ref sig .tc) : V m c r = after hostOps0_4 (before m c) (Proc.devRef .tc r) := by
  show after (List.flatten [hostOps0, hostOps0_1, hostOps0_2, hostOps0_3, hostOps0_4]) (fun b => m (c, b)) (Proc.devRef .tc r) = _
  rw [List.flatten_cons, List.flatten_cons, List.flatten_cons, List.flatten_cons, List.flatten_cons, List.flatten_nil,
    List.append_nil, after_append, after_append, after_append, after_append]

/-- A list's first operation and then the others. -/
theorem after_split (ops : List (HloOp τ sig (Elt F))) (W : KV) : after ops W = after (ops.drop 1) (after (ops.take 1) W) := by
  rw [← after_append, List.take_append_drop]

/-- From streams that agree, the first two stretches leave the reference's first fused array. -/
theorem taken_first (R : RV)
    (h0 : m ((c : Thread nD τ).loc main_arg0) = R (Proc.devRef .tc Cert.ReferenceIdeal.main_arg0))
    (h1 : m ((c : Thread nD τ).loc main_arg1) = R (Proc.devRef .tc Cert.ReferenceIdeal.main_arg1)) :
    after hostOps0_1 (after hostOps0 (fun b => m (c, b))) (Proc.devRef .tc main_v14) = res_main_v14 R := by
  have hc := first_concat (fun b => m (c, b)) R h0 h1
  apply first_taken
  · rw [after_split hostOps0, keep_v0]; exact hc
  · rw [after_split hostOps0]; exact first_indices _ R hc

/-- The kernel's first fused array is the reference's, -/
theorem V_first (R : RV)
    (h0 : m ((c : Thread nD τ).loc main_arg0) = R (Proc.devRef .tc Cert.ReferenceIdeal.main_arg0))
    (h1 : m ((c : Thread nD τ).loc main_arg1) = R (Proc.devRef .tc Cert.ReferenceIdeal.main_arg1)) :
    V m c main_v14 = res_main_v14 R := by
  rw [V_eq, keep_last _ _ (by decide), before, keep_v14', keep_v14]
  exact taken_first m c R h0 h1

/-- and so is its second. -/
theorem V_second (R : RV)
    (h0 : m ((c : Thread nD τ).loc main_arg0) = R (Proc.devRef .tc Cert.ReferenceIdeal.main_arg0))
    (h1 : m ((c : Thread nD τ).loc main_arg1) = R (Proc.devRef .tc Cert.ReferenceIdeal.main_arg1)) :
    V m c main_v29 = refSecond R := by
  rw [V_eq, keep_last _ _ (by decide)]
  have hc := second_concat (after hostOps0_1 (after hostOps0 (fun b => m (c, b)))) R (taken_first m c R h0 h1)
    (by rw [keep_arg1', keep_arg1]; exact h1)
  apply second_taken
  · rw [after_split hostOps0_2, keep_v15]; exact hc
  · rw [after_split hostOps0_2]; exact second_indices _ R hc

/-! ## The parameters as the region reads them -/

/-- The last stretch casts the four weight matrices to the narrow format and writes the four biases as one row each. -/
theorem last_params (W : KV) :
    after hostOps0_4 W (Proc.devRef .tc main_v30) = truncf (s := S1024x512) (φ := .f32) .bf16 (W (Proc.devRef .tc main_arg2)) bitsLt_bf16_f32
    ∧ after hostOps0_4 W (Proc.devRef .tc main_v31) = shapeCast (s := S512) S1x512 (W (Proc.devRef .tc main_arg3)) shapeCasts_S512_S1x512
    ∧ after hostOps0_4 W (Proc.devRef .tc main_v32) = truncf (s := S512x10) (φ := .f32) .bf16 (W (Proc.devRef .tc main_arg4)) bitsLt_bf16_f32
    ∧ after hostOps0_4 W (Proc.devRef .tc main_v33) = shapeCast (s := S10) S1x10 (W (Proc.devRef .tc main_arg5)) shapeCasts_S10_S1x10
    ∧ after hostOps0_4 W (Proc.devRef .tc main_v34) = truncf (s := S1024x512) (φ := .f32) .bf16 (W (Proc.devRef .tc main_arg6)) bitsLt_bf16_f32
    ∧ after hostOps0_4 W (Proc.devRef .tc main_v35) = shapeCast (s := S512) S1x512 (W (Proc.devRef .tc main_arg7)) shapeCasts_S512_S1x512
    ∧ after hostOps0_4 W (Proc.devRef .tc main_v36) = truncf (s := S512x10) (φ := .f32) .bf16 (W (Proc.devRef .tc main_arg8)) bitsLt_bf16_f32
    ∧ after hostOps0_4 W (Proc.devRef .tc main_v37) = shapeCast (s := S10) S1x10 (W (Proc.devRef .tc main_arg9)) shapeCasts_S10_S1x10 := by
  refine ⟨?_, ?_, ?_, ?_, ?_, ?_, ?_, ?_⟩ <;> (simp only [hostOps0_4]; after_results_simp; try rfl)

/-- A buffer that the last stretch doesn't write is, before it, as the region is entered with it. -/
theorem before_eq (r : Ref sig .tc)
    (hr : r ∉ [main_v30, main_v31, main_v32, main_v33, main_v34, main_v35, main_v36, main_v37]) :
    before m c (Proc.devRef .tc r) = V m c r :=
  (keep_last _ r hr).symm.trans (V_eq m c r).symm

end Cert.Proof.Host

end
-- ==== Proof.Head.lean ====
/-
  One head: a linear layer, the maximum with zero, a second linear layer. Stated once, as a function of a whole array of
  rows, and read off both programs: the kernel's payload over one block of rows, and the reference's two products.
-/
module

public import proofs.«01_k».proof.Proof.Gen.KernelIdeal.Value
public import proofs.«01_k».proof.Proof.Gen.ReferenceIdeal.Run
public import Idealize.ShloMosaic.Lib.Pointwise
public import Idealize.ShloMosaic.Lib.ValueIdx

@[expose] public section

set_option maxRecDepth 16384

noncomputable section

namespace Cert.Proof.Head

open Idealize.ShloMosaic

/-- A row's hidden unit `k`: the row times column `k` of the first weights, plus the bias, cut off below zero. -/
def hidden (x : Fin 1024 → EReal) (wa : (⟨2, ![1024, 512]⟩ : Shape).Idx → EReal) (ba : Fin 512 → EReal) (k : Fin 512) : EReal :=
  max (∑ l : Fin 1024, x l * wa (ix2 l k) + ba k) 0

/-- A row's logit `q`: its hidden units times column `q` of the second weights, plus the bias. -/
def logit (x : Fin 1024 → EReal) (wa : (⟨2, ![1024, 512]⟩ : Shape).Idx → EReal) (ba : Fin 512 → EReal)
    (wb : (⟨2, ![512, 10]⟩ : Shape).Idx → EReal) (bb : Fin 10 → EReal) (q : Fin 10) : EReal :=
  ∑ k : Fin 512, hidden x wa ba k * wb (ix2 k q) + bb q

section Kernel
open Cert.KernelIdeal Cert.KernelIdeal.Gen

/-- The second head's payload, which the body computes in two parts, is the first head's payload at other operands. -/
theorem pay_same {F : FTy → Type} [FloatOps F] (x : Vec F S512x1024 .f32) (wa : Vec F S1024x512 .bf16) (ba : Vec F S1x512 .f32)
    (wb : Vec F S512x10 .bf16) (bb : Vec F S1x10 .f32) :
    k0_pay1 (k0_pay3 x wa ba) wb bb = k0_pay2 x wa ba wb bb := rfl

/-- What the body computes from a block of rows, at row `j 0` and logit `j 1`: that row's logit. -/
theorem pay_apply (x : Vec Ideal S512x1024 .f32) (wa : Vec Ideal S1024x512 .bf16) (ba : Vec Ideal S1x512 .f32)
    (wb : Vec Ideal S512x10 .bf16) (bb : Vec Ideal S1x10 .f32) (j : S512x10.Idx) :
    k0_pay2 x wa ba wb bb j
      = logit (fun l => x (ix2 (j 0) l)) wa (fun k => ba (ix2 0 k)) wb (fun q => bb (ix2 0 q)) (j 1) := by
  unfold k0_pay2
  pointwise
  rfl

end Kernel

section Reference
open Cert.ReferenceIdeal Cert.ReferenceIdeal.Gen

/-- The reference's head over all rows, as its run leaves it. -/
abbrev refHead {F : FTy → Type} [FloatOps F] (x : FVec F S4096x1024 .f32) (wa : FVec F S1024x512 .f32) (ba : FVec F S512 .f32)
    (wb : FVec F S512x10 .f32) (bb : FVec F S10 .f32) : FVec F S4096x10 .f32 :=
  addf
    (Host.dotGeneral dot_S4096x512_S512x10_S4096x10_1_0_0_1_n_n none
      (maximumf
        (addf (Host.dotGeneral dot_S4096x1024_S1024x512_S4096x512_1_0_0_1_n_n none x wa)
          (broadcastInDim S4096x512 ![0, 1] bcast_S1x512_S4096x512_0_1 (broadcastInDim S1x512 ![1] bcast_S512_S1x512_1 ba)))
        (broadcastInDim S4096x512 ![] bcast_S_S4096x512 (constant S_ .f32 0x00000000#32)))
      wb)
    (broadcastInDim S4096x10 ![0, 1] bcast_S1x10_S4096x10_0_1 (broadcastInDim S1x10 ![1] bcast_S10_S1x10_1 bb))

/-- Its entry at row `j 0` and logit `j 1` is that row's logit. -/
theorem refHead_apply (x : FVec Ideal S4096x1024 .f32) (wa : FVec Ideal S1024x512 .f32) (ba : FVec Ideal S512 .f32)
    (wb : FVec Ideal S512x10 .f32) (bb : FVec Ideal S10 .f32) (j : S4096x10.Idx) :
    refHead x wa ba wb bb j
      = logit (fun l => x (ix2 (j 0) l)) wa (fun k => ba (ix1 k)) wb (fun q => bb (ix1 q)) (j 1) := by
  unfold refHead
  pointwise
  rfl

end Reference

end Cert.Proof.Head

end
-- ==== Proof.Blocks.lean ====
/-
  Where the blocks of the kernel's windows lie. Grid point `t` is on rows `512 t` to `512 t + 511` of both fused arrays
  and of both logit arrays, and on the whole of every parameter.
-/
module

public import proofs.«01_k».proof.Proof.Gen.KernelIdeal.Value
public import Idealize.ShloMosaic.Lib.Pipeline.ValueKit

@[expose] public section

set_option maxRecDepth 16384

noncomputable section

namespace Cert.Proof.Blocks

open Cert.KernelIdeal Cert.KernelIdeal.Gen
open Idealize.ShloMosaic Idealize.ShloMosaic.TcCoe

/-- Point `t` reads block `t` of the rows of both fused arrays and writes block `t` of both logit arrays; -/
theorem idx_rows : ∀ t : Fin cfg0.N, win0_0.index t = ![t.val, 0] ∧ win0_1.index t = ![t.val, 0]
    ∧ win0_10.index t = ![t.val, 0] ∧ win0_11.index t = ![t.val, 0] :=
  (by decide +kernel : ∀ t : Fin grid0.N, _)

/-- every parameter is read whole. -/
theorem idx_params : ∀ t : Fin cfg0.N, win0_2.index t = ![0, 0] ∧ win0_3.index t = ![0, 0] ∧ win0_4.index t = ![0, 0]
    ∧ win0_5.index t = ![0, 0] ∧ win0_6.index t = ![0, 0] ∧ win0_7.index t = ![0, 0] ∧ win0_8.index t = ![0, 0]
    ∧ win0_9.index t = ![0, 0] :=
  (by decide +kernel : ∀ t : Fin grid0.N, _)

set_option maxHeartbeats 2000000 in
/-- So a parameter's block, whatever the parameter holds, is the parameter. -/
theorem read_params (t : Fin cfg0.N) (wa wa' : FVec Ideal S1024x512 .bf16) (ba ba' : FVec Ideal S1x512 .f32)
    (wb wb' : FVec Ideal S512x10 .bf16) (bb bb' : FVec Ideal S1x10 .f32) :
    ((cfg0.win 2).blk t).view.read (Elt Ideal) wa = wa ∧ ((cfg0.win 3).blk t).view.read (Elt Ideal) ba = ba
    ∧ ((cfg0.win 4).blk t).view.read (Elt Ideal) wb = wb ∧ ((cfg0.win 5).blk t).view.read (Elt Ideal) bb = bb
    ∧ ((cfg0.win 6).blk t).view.read (Elt Ideal) wa' = wa' ∧ ((cfg0.win 7).blk t).view.read (Elt Ideal) ba' = ba'
    ∧ ((cfg0.win 8).blk t).view.read (Elt Ideal) wb' = wb' ∧ ((cfg0.win 9).blk t).view.read (Elt Ideal) bb' = bb' := by
  obtain ⟨h2, h3, h4, h5, h6, h7, h8, h9⟩ := idx_params t
  refine ⟨?_, ?_, ?_, ?_, ?_, ?_, ?_, ?_⟩ <;> funext y
  · blk_ext [h2]
  · blk_ext [h3]
  · blk_ext [h4]
  · blk_ext [h5]
  · blk_ext [h6]
  · blk_ext [h7]
  · blk_ext [h8]
  · blk_ext [h9]

/-- A block of rows of a fused array, whatever the array holds: row `r` of block `t` is row `512 t + r`, -/
theorem read_rows (t : Fin cfg0.N) (x x' : FVec Ideal S4096x1024 .f32) (r : Fin 512) (l : Fin 1024) (i : Fin 4096)
    (hi : (i : ℕ) = t.val * 512 + r) :
    ((cfg0.win 0).blk t).view.read (Elt Ideal) x (ix2 r l) = x (ix2 i l)
    ∧ ((cfg0.win 1).blk t).view.read (Elt Ideal) x' (ix2 r l) = x' (ix2 i l) := by
  obtain ⟨h0, h1, -⟩ := idx_rows t
  refine ⟨?_, ?_⟩
  · blk_ext [h0]
  · blk_ext [h1]

/-- A block of rows of a logit array: row `r` of block `t` lies at row `512 t + r`. -/
theorem place_rows (t : Fin cfg0.N) (G G' : FVec Ideal S4096x10 .f32) (y : S512x10.Idx) (i : Fin 4096)
    (hi : (i : ℕ) = t.val * 512 + (y 0 : ℕ)) :
    G (((View.whole main_v38_0).slice (win0_10.rect t)).emb y) = G (ix2 i (y 1))
    ∧ G' (((View.whole main_v38_1).slice (win0_11.rect t)).emb y) = G' (ix2 i (y 1)) := by
  obtain ⟨-, -, h10, h11⟩ := idx_rows t
  refine ⟨?_, ?_⟩
  · blk_ext [h10]
  · blk_ext [h11]

end Cert.Proof.Blocks

end
-- ==== Proof.Arrays.lean ====
/-
  The two logit arrays after the kernel's run: every row is the head of that row of the fused array. Grid point `t`
  computes rows `512 t` to `512 t + 511`, and the eight blocks of rows fill the array.
-/
module

public import proofs.«01_k».proof.Proof.Head
public import proofs.«01_k».proof.Proof.Blocks

@[expose] public section

set_option maxRecDepth 16384

noncomputable section

namespace Cert.Proof.Arrays

open Cert.KernelIdeal Cert.KernelIdeal.Gen Cert.Proof.Head Cert.Proof.Blocks
open Idealize.ShloMosaic Idealize.ShloMosaic.TcCoe Idealize.SL.Sem
open Idealize.ShloMosaic.Pipeline (Dat)

/-- The head of every row of `x`, the parameters as the region reads them. -/
def rows (x : FVec Ideal S4096x1024 .f32) (wa : FVec Ideal S1024x512 .bf16) (ba : FVec Ideal S1x512 .f32)
    (wb : FVec Ideal S512x10 .bf16) (bb : FVec Ideal S1x10 .f32) : FVec Ideal S4096x10 .f32 :=
  fun i => logit (fun l => x (ix2 (i 0) l)) wa (fun k => ba (ix2 0 k)) wb (fun q => bb (ix2 0 q)) (i 1)

variable (m : (ℓ : Loc nD τ sig) → Buf (Elt Ideal) ℓ)

/-- One block: where row `y 0` of `xb` is row `i` of `x`, its head is row `i` of the heads of `x`. -/
theorem logit_block (xb : FVec Ideal S512x1024 .f32) (x : FVec Ideal S4096x1024 .f32) (wa : FVec Ideal S1024x512 .bf16)
    (ba : FVec Ideal S1x512 .f32) (wb : FVec Ideal S512x10 .bf16) (bb : FVec Ideal S1x10 .f32) (y : S512x10.Idx) (i : Fin 4096)
    (hx : ∀ l : Fin 1024, xb (ix2 (y 0) l) = x (ix2 i l)) :
    logit (fun l => xb (ix2 (y 0) l)) wa (fun k => ba (ix2 0 k)) wb (fun q => bb (ix2 0 q)) (y 1)
      = rows x wa ba wb bb (ix2 i (y 1)) :=
  congrArg (fun r => logit r wa (fun k => ba (ix2 0 k)) wb (fun q => bb (ix2 0 q)) (y 1)) (funext hx)

/-- Row `r` of block `t` is a row of the array. -/
theorem row_lt (t : Fin cfg0.N) (r : Fin 512) : t.val * 512 + (r : ℕ) < 4096 := by
  have hN : cfg0.N = 8 := N_0
  have := t.isLt
  have := r.isLt
  omega

/-- The first logit array. -/
theorem final_first (c : Dev nD) : (dats m 0 c).arrAt 10 cfg0.N
    = rows (V m c main_v14) (V m c main_v30) (V m c main_v31) (V m c main_v32) (V m c main_v33) := by
  refine (dats m 0 c).arrAt_eq_of_covers 10 _ (by decide +kernel) fun t _ y => ?_
  blk_simp
  rw [after0_10]
  frame_out
  refine (pay_apply _ _ _ _ _ y).trans (Eq.trans ?_ (place_rows t (rows _ _ _ _ _) (fun _ => 0) y ⟨_, row_lt t (y 0)⟩ rfl).1.symm)
  obtain ⟨h2, h3, h4, h5, -⟩ := read_params t (V m c main_v30) (V m c main_v34) (V m c main_v31) (V m c main_v35)
    (V m c main_v32) (V m c main_v36) (V m c main_v33) (V m c main_v37)
  have e2 : iblk m c 2 t = V m c main_v30 := h2
  have e3 : iblk m c 3 t = V m c main_v31 := h3
  have e4 : iblk m c 4 t = V m c main_v32 := h4
  have e5 : iblk m c 5 t = V m c main_v33 := h5
  rw [e2, e3, e4, e5]
  exact logit_block (iblk m c 0 t) _ _ _ _ _ y _ fun l =>
    (read_rows t (V m c main_v14) (V m c main_v29) (y 0) l ⟨_, row_lt t (y 0)⟩ rfl).1

/-- The second logit array, its head's payload computed in two parts. -/
theorem final_second (c : Dev nD) : (dats m 0 c).arrAt 11 cfg0.N
    = rows (V m c main_v29) (V m c main_v34) (V m c main_v35) (V m c main_v36) (V m c main_v37) := by
  refine (dats m 0 c).arrAt_eq_of_covers 11 _ (by decide +kernel) fun t _ y => ?_
  blk_simp
  rw [after0_11]
  frame_out
  rw [pay_same]
  refine (pay_apply _ _ _ _ _ y).trans (Eq.trans ?_ (place_rows t (fun _ => 0) (rows _ _ _ _ _) y ⟨_, row_lt t (y 0)⟩ rfl).2.symm)
  obtain ⟨-, -, -, -, h6, h7, h8, h9⟩ := read_params t (V m c main_v30) (V m c main_v34) (V m c main_v31) (V m c main_v35)
    (V m c main_v32) (V m c main_v36) (V m c main_v33) (V m c main_v37)
  have e6 : iblk m c 6 t = V m c main_v34 := h6
  have e7 : iblk m c 7 t = V m c main_v35 := h7
  have e8 : iblk m c 8 t = V m c main_v36 := h8
  have e9 : iblk m c 9 t = V m c main_v37 := h9
  rw [e6, e7, e8, e9]
  exact logit_block (iblk m c 1 t) _ _ _ _ _ y _ fun l =>
    (read_rows t (V m c main_v14) (V m c main_v29) (y 0) l ⟨_, row_lt t (y 0)⟩ rfl).2

end Cert.Proof.Arrays

end
-- ==== Proof.Equation.lean ====
/-
  The equation: on exact values the kernel's head, over the parameters as its host code hands them on, is the
  reference's head over the parameters themselves. The casts to the narrow format are the identity there, and a bias
  written as one row is read back entry by entry.
-/
module

public import proofs.«01_k».proof.Proof.Arrays

@[expose] public section

set_option maxRecDepth 16384

noncomputable section

namespace Cert.Proof.Equation

open Cert.KernelIdeal Cert.KernelIdeal.Gen Cert.Proof.Head Cert.Proof.Arrays
open Idealize.ShloMosaic

/-- The heads of all rows over the cast weights and the biases as rows are the reference's head. -/
theorem rows_eq (x : FVec Ideal S4096x1024 .f32) (wa : FVec Ideal S1024x512 .f32) (ba : FVec Ideal S512 .f32)
    (wb : FVec Ideal S512x10 .f32) (bb : FVec Ideal S10 .f32) :
    rows x (truncf .bf16 wa bitsLt_bf16_f32) (shapeCast S1x512 ba shapeCasts_S512_S1x512)
        (truncf .bf16 wb bitsLt_bf16_f32) (shapeCast S1x10 bb shapeCasts_S10_S1x10)
      = refHead x wa ba wb bb := by
  funext i
  refine Eq.trans ?_ (refHead_apply x wa ba wb bb i).symm
  have hba : (fun k : Fin 512 => shapeCast S1x512 ba shapeCasts_S512_S1x512 (ix2 0 k)) = fun k => ba (ix1 k) := by
    funext k
    pointwise
  have hbb : (fun q : Fin 10 => shapeCast S1x10 bb shapeCasts_S10_S1x10 (ix2 0 q)) = fun q => bb (ix1 q) := by
    funext q
    pointwise
  unfold rows
  rw [hba, hbb]
  rfl

end Cert.Proof.Equation

end
-- ==== Proof.Results.lean ====
/-
  The two runs at exact values. The kernel's run ends with the logit arrays at the reference's heads of the fused arrays
  that its host code leaves; the reference's run ends with its heads of its own fused arrays; from arguments that agree
  these are the same four arrays.
-/
module

public import proofs.«01_k».proof.Proof.Host
public import proofs.«01_k».proof.Proof.Equation

@[expose] public section

set_option maxRecDepth 16384

noncomputable section

namespace Cert.Proof.Results

open Cert.KernelIdeal Cert.KernelIdeal.Gen Cert.Proof.Head Cert.Proof.Arrays Cert.Proof.Equation Cert.Proof.Host
open Idealize.ShloMosaic Idealize.ShloMosaic.TcCoe Idealize.SL.Sem Idealize.ShloMosaic.StableHlo

/-- The head of equal arrays is equal. -/
theorem refHead_congr {x x' : FVec Ideal S4096x1024 .f32} {wa wa' : FVec Ideal S1024x512 .f32} {ba ba' : FVec Ideal S512 .f32}
    {wb wb' : FVec Ideal S512x10 .f32} {bb bb' : FVec Ideal S10 .f32} (hx : x = x') (hwa : wa = wa') (hba : ba = ba')
    (hwb : wb = wb') (hbb : bb = bb') : refHead x wa ba wb bb = refHead x' wa' ba' wb' bb' := by
  subst hx hwa hba hwb hbb
  rfl

section Kernel

variable (m : (ℓ : Loc nD τ sig) → Buf (Elt Ideal) ℓ) (ρ : Dev nD → PrngReg)

/-- The kernel's two logit arrays, as heads over its arguments: -/
abbrev logits1 (c : Dev nD) : Buf (Elt Ideal) ((c : Thread nD τ).loc main_v38_0) :=
  refHead (F := Ideal) (V m c main_v14) (m ((c : Thread nD τ).loc main_arg2)) (m ((c : Thread nD τ).loc main_arg3))
    (m ((c : Thread nD τ).loc main_arg4)) (m ((c : Thread nD τ).loc main_arg5))
abbrev logits2 (c : Dev nD) : Buf (Elt Ideal) ((c : Thread nD τ).loc main_v38_1) :=
  refHead (F := Ideal) (V m c main_v29) (m ((c : Thread nD τ).loc main_arg6)) (m ((c : Thread nD τ).loc main_arg7))
    (m ((c : Thread nD τ).loc main_arg8)) (m ((c : Thread nD τ).loc main_arg9))

/-- An argument is, before the last stretch, as launched. -/
theorem before_arg (c : Dev nD) (r : Ref sig .tc)
    (hr : r ∉ [main_v30, main_v31, main_v32, main_v33, main_v34, main_v35, main_v36, main_v37])
    (hV : V m c r = m ((c : Thread nD τ).loc r)) : Host.before m c (Proc.devRef .tc r) = m ((c : Thread nD τ).loc r) :=
  (Host.before_eq m c r hr).trans hV

/-- what the region leaves in the first, -/
theorem out_first (c : Dev nD) : (dats m 0 c).arrAt 10 cfg0.N = logits1 m c := by
  obtain ⟨p30, p31, p32, p33, -⟩ := last_params (Host.before m c)
  rw [← V_eq, before_arg m c _ (by decide) (V_main_arg2 m c)] at p30
  rw [← V_eq, before_arg m c _ (by decide) (V_main_arg3 m c)] at p31
  rw [← V_eq, before_arg m c _ (by decide) (V_main_arg4 m c)] at p32
  rw [← V_eq, before_arg m c _ (by decide) (V_main_arg5 m c)] at p33
  rw [final_first, p30, p31, p32, p33]
  exact rows_eq _ _ _ _ _

/-- and in the second. -/
theorem out_second (c : Dev nD) : (dats m 0 c).arrAt 11 cfg0.N = logits2 m c := by
  obtain ⟨-, -, -, -, p34, p35, p36, p37⟩ := last_params (Host.before m c)
  rw [← V_eq, before_arg m c _ (by decide) (V_main_arg6 m c)] at p34
  rw [← V_eq, before_arg m c _ (by decide) (V_main_arg7 m c)] at p35
  rw [← V_eq, before_arg m c _ (by decide) (V_main_arg8 m c)] at p36
  rw [← V_eq, before_arg m c _ (by decide) (V_main_arg9 m c)] at p37
  rw [final_second, p34, p35, p36, p37]
  exact rows_eq _ _ _ _ _

/-- The kernel's run: the logit arrays at the heads, the fused arrays as the host code left them, the arguments unchanged. -/
theorem kernel_run : θ_run defs (onTc (τ := τ) (main (F := Ideal))) ⟨m, fun _ => 0, ρ⟩ fun r => ∀ c : Dev nD,
      r.2.mem ((c : Thread nD τ).loc main_v38_0) = logits1 m c
      ∧ r.2.mem ((c : Thread nD τ).loc main_v38_1) = logits2 m c
      ∧ r.2.mem ((c : Thread nD τ).loc main_v14) = V m c main_v14
      ∧ r.2.mem ((c : Thread nD τ).loc main_v29) = V m c main_v29
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c =>
    ⟨(Value.post10 m r h c).trans (out_first m c), (Value.post11 m r h c).trans (out_second m c),
      (((h c).1 0).trans ((dats m 0 c).arrAt_in 0 rfl _)).trans (A_eq m c 0),
      (((h c).1 1).trans ((dats m 0 c).arrAt_in 1 rfl _)).trans (A_eq m c 1),
      Value.kept_main_arg0 m r h c, Value.kept_main_arg1 m r h c, Value.kept_main_arg2 m r h c,
      Value.kept_main_arg3 m r h c, Value.kept_main_arg4 m r h c, Value.kept_main_arg5 m r h c,
      Value.kept_main_arg6 m r h c, Value.kept_main_arg7 m r h c, Value.kept_main_arg8 m r h c,
      Value.kept_main_arg9 m r h c⟩)
    (run_main m ρ)

end Kernel

end Cert.Proof.Results

end
-- ==== Proof.lean ====
/-
  The proof of `Cert.Claim`: the three frames, the idealization, and the equality of the kernel's four results with the
  reference's at exact values.
-/
module

public import proofs.«01_k».proof.Proof.Results
public import proofs.«01_k».proof.Proof.Gen.KernelIdeal.Value
public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- From any memory each program ends without a fault, its arguments unchanged and its semaphores at zero: the kernel, -/
theorem frame_kernel : Cert.quiescent_Kernel := fun m ρ _ => Cert.Kernel.Gen.frame m ρ
/-- its idealization, -/
theorem frame_ideal : Cert.quiescent_KernelIdeal := fun m ρ _ => Cert.KernelIdeal.Gen.frame m ρ
/-- and the reference, which declares no semaphore. -/
theorem frame_reference : Cert.quiescent_ReferenceIdeal := fun m ρ _ =>
  (θ_run Cert.ReferenceIdeal.defs _ _).mono
    (fun r h => ⟨fun c => (h c).2.2.2.2, sem_eq_zero_of_no_sems (by decide) r.2⟩)
    (Cert.ReferenceIdeal.Value.run (F := Ideal) m ρ)

/-- Idealizing the kernel rewrote nothing. -/
theorem preserves : Cert.preserves_Kernel_KernelIdeal := trivial

/-- From arguments that agree, the kernel's logits and fused arrays are the reference's. -/
theorem algebraic : Cert.algebraic_KernelIdeal_ReferenceIdeal := by
  intro m ρ m' ρ' _ hagree
  refine ⟨fun c => Results.logits1 m c, fun c => Results.logits2 m c, fun c => Cert.KernelIdeal.Gen.V m c Cert.KernelIdeal.main_v14,
    fun c => Cert.KernelIdeal.Gen.V m c Cert.KernelIdeal.main_v29, Results.kernel_run m ρ, ?_⟩
  refine (θ_run Cert.ReferenceIdeal.defs _ _).mono (fun r h c => ?_) (Cert.ReferenceIdeal.Value.run (F := Ideal) m' ρ')
  obtain ⟨a0, a1, a2, a3, a4, a5, a6, a7, a8, a9⟩ := hagree c
  obtain ⟨r1, r2, r3, r4, rest⟩ := h c
  have first := Host.V_first m c (StableHlo.launchContents m' c) a0.symm a1.symm
  have second := Host.V_second m c (StableHlo.launchContents m' c) a0.symm a1.symm
  rw [Host.refSecond, Cert.ReferenceIdeal.Value.val0_3_main_v29] at second
  exact ⟨r1.trans (Results.refHead_congr first.symm a2 a3 a4 a5), r2.trans (Results.refHead_congr second.symm a6 a7 a8 a9),
    r3.trans first.symm, r4.trans second.symm, rest⟩

/-- Everything the certificate claims. -/
theorem claim : Cert.Claim := ⟨Cert.Kernel.Gen.facts, Cert.KernelIdeal.Gen.facts, Cert.ReferenceIdeal.Gen.facts,
  frame_kernel, frame_ideal, frame_reference, preserves, algebraic⟩

end Cert.Proof

end
